-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router_no_bias [hPre_finite_router_no_bias : Cert.Pre_finite_router_no_bias.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_router_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_router_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_router_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_router_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router_no_bias [hPre_finite_router_no_bias : Cert.Pre_finite_router_no_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_router_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_router_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_router_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_router_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_router_no_bias [hKernelIdeal : Cert.KernelIdeal.Facts] [hPre_finite_router_no_bias : Cert.Pre_finite_router_no_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router_no_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_router_no_bias [hReferenceIdeal : Cert.ReferenceIdeal.Facts] [hPre_finite_router_no_bias : Cert.Pre_finite_router_no_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router_no_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_router_no_bias [hKernelIdeal : Cert.KernelIdeal.Facts] [hReferenceIdeal : Cert.ReferenceIdeal.Facts] [hPre_finite_router_no_bias : Cert.Pre_finite_router_no_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router_no_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_router_no_bias : Cert.Pre_finite_router_no_bias.Facts),
    quiescent_Kernel (hKernel := hKernel)
    ∧ quiescent_KernelIdeal (hKernelIdeal := hKernelIdeal)
    ∧ quiescent_KernelIdeal_pre_finite_router_no_bias (hKernelIdeal := hKernelIdeal) (hPre_finite_router_no_bias := hPre_finite_router_no_bias)
    ∧ quiescent_ReferenceIdeal (hReferenceIdeal := hReferenceIdeal)
    ∧ quiescent_ReferenceIdeal_pre_finite_router_no_bias (hReferenceIdeal := hReferenceIdeal) (hPre_finite_router_no_bias := hPre_finite_router_no_bias)
    ∧ preserves_Kernel_KernelIdeal
    ∧ algebraic_KernelIdeal_ReferenceIdeal_pre_finite_router_no_bias (hKernelIdeal := hKernelIdeal) (hReferenceIdeal := hReferenceIdeal) (hPre_finite_router_no_bias := hPre_finite_router_no_bias)
-- ==== Pre_finite_router_no_bias.lean ====
abbrev S8192x2048 : Shape := ⟨2, ![8192, 2048]⟩
abbrev S2048x8 : Shape := ⟨2, ![2048, 8]⟩
abbrev S8 : Shape := ⟨1, ![8]⟩
abbrev S8x2048x64 : Shape := ⟨3, ![8, 2048, 64]⟩
abbrev S8x64 : Shape := ⟨2, ![8, 64]⟩
abbrev S8x64x2048 : Shape := ⟨3, ![8, 64, 2048]⟩
abbrev S8x2048 : Shape := ⟨2, ![8, 2048]⟩
abbrev S_ : Shape := ⟨0, ![]⟩

class Facts : Prop where
  bcast_S_S8192x2048 : S_.BroadcastsInDim S8192x2048 (![] : Fin 0 → Fin S8192x2048.rank)
  bcast_S_S2048x8 : S_.BroadcastsInDim S2048x8 (![] : Fin 0 → Fin S2048x8.rank)
  bcast_S_S8 : S_.BroadcastsInDim S8 (![] : Fin 0 → Fin S8.rank)
  bcast_S_S8x64 : S_.BroadcastsInDim S8x64 (![] : Fin 0 → Fin S8x64.rank)
  bcast_S_S8x2048 : S_.BroadcastsInDim S8x2048 (![] : Fin 0 → Fin S8x2048.rank)

variable [Facts]

def fn {F : FTy → Type} [FloatOps F] (main_arg0 : FVec F S8192x2048 .f32) (main_arg1 : FVec F S2048x8 .f32) (main_arg2 : FVec F S8 .f32) (main_arg3 : FVec F S8x2048x64 .f32) (main_arg4 : FVec F S8x64 .f32) (main_arg5 : FVec F S8x64x2048 .f32) (main_arg6 : FVec F S8x2048 .f32) : IVec S8192x2048 1 × IVec S2048x8 1 × IVec S8 1 × IVec S8x64 1 × IVec S8x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048x8 .f32 := Host.absf main_arg1
  let main_cst_0 : FVec F S_ .f32 := constant S_ .f32 0x7F800000#32
  let main_v4 : FVec F S2048x8 .f32 := broadcastInDim S2048x8 ![] bcast_S_S2048x8 main_cst_0
  let main_v5 : IVec S2048x8 1 := cmpf .olt main_v3 main_v4
  let main_cst_1 : FVec F S_ .f32 := constant S_ .f32 0x00000000#32
  let main_v6 : FVec F S8 .f32 := broadcastInDim S8 ![] bcast_S_S8 main_cst_1
  let main_v7 : IVec S8 1 := cmpf .oeq main_arg2 main_v6
  let main_cst_2 : FVec F S_ .f32 := constant S_ .f32 0x00000000#32
  let main_v8 : FVec F S8x64 .f32 := broadcastInDim S8x64 ![] bcast_S_S8x64 main_cst_2
  let main_v9 : IVec S8x64 1 := cmpf .oeq main_arg4 main_v8
  let main_cst_3 : FVec F S_ .f32 := constant S_ .f32 0x00000000#32
  let main_v10 : FVec F S8x2048 .f32 := broadcastInDim S8x2048 ![] bcast_S_S8x2048 main_cst_3
  let main_v11 : IVec S8x2048 1 := cmpf .oeq main_arg6 main_v10
  (main_v2, main_v5, main_v7, main_v9, main_v11)
-- ==== Kernel.lean ====
abbrev S8192x2048 : Shape := ⟨2, ![8192, 2048]⟩
abbrev S2048x8 : Shape := ⟨2, ![2048, 8]⟩
abbrev S8 : Shape := ⟨1, ![8]⟩
abbrev S8x2048x64 : Shape := ⟨3, ![8, 2048, 64]⟩
abbrev S8x64 : Shape := ⟨2, ![8, 64]⟩
abbrev S8x64x2048 : Shape := ⟨3, ![8, 64, 2048]⟩
abbrev S8x2048 : Shape := ⟨2, ![8, 2048]⟩
abbrev S2048x8x64 : Shape := ⟨3, ![2048, 8, 64]⟩
abbrev S2048x512 : Shape := ⟨2, ![2048, 512]⟩
abbrev S512x2048 : Shape := ⟨2, ![512, 2048]⟩
abbrev S1024x2048 : Shape := ⟨2, ![1024, 2048]⟩
abbrev S1024x8 : Shape := ⟨2, ![1024, 8]⟩
abbrev S8x1024 : Shape := ⟨2, ![8, 1024]⟩
abbrev S1024 : Shape := ⟨1, ![1024]⟩
abbrev S1x1024 : Shape := ⟨2, ![1, 1024]⟩
abbrev S1024x512 : Shape := ⟨2, ![1024, 512]⟩
abbrev S8x512 : Shape := ⟨2, ![8, 512]⟩

abbrev nBuf : Space → Nat
  | .hbm => 14
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8, .f32⟩
  | .hbm, ⟨2, _⟩ => ⟨S8, .f32⟩
  | .hbm, ⟨3, _⟩ => ⟨S8x2048x64, .f32⟩
  | .hbm, ⟨4, _⟩ => ⟨S8x64, .f32⟩
  | .hbm, ⟨5, _⟩ => ⟨S8x64x2048, .f32⟩
  | .hbm, ⟨6, _⟩ => ⟨S8x2048, .f32⟩
  | .hbm, ⟨7, _⟩ => ⟨S8x2048x64, .bf16⟩
  | .hbm, ⟨8, _⟩ => ⟨S2048x8x64, .bf16⟩
  | .hbm, ⟨9, _⟩ => ⟨S2048x512, .bf16⟩
  | .hbm, ⟨10, _⟩ => ⟨S8x64x2048, .bf16⟩
  | .hbm, ⟨11, _⟩ => ⟨S512x2048, .bf16⟩
  | .hbm, ⟨12, _⟩ => ⟨S2048x8, .bf16⟩
  | .hbm, ⟨13, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x8, .bf16⟩
  | .local _ .vmem, ⟨3, _⟩ => ⟨S2048x512, .bf16⟩
  | .local _ .vmem, ⟨4, _⟩ => ⟨S512x2048, .bf16⟩
  | .local _ .vmem, ⟨5, _⟩ => ⟨S1024x2048, .f32⟩
  | .local _ .vmem, ⟨6, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x2048 : Shape := ⟨2, ![8192, 2048]⟩
abbrev S2048x8 : Shape := ⟨2, ![2048, 8]⟩
abbrev S8 : Shape := ⟨1, ![8]⟩
abbrev S8x2048x64 : Shape := ⟨3, ![8, 2048, 64]⟩
abbrev S8x64 : Shape := ⟨2, ![8, 64]⟩
abbrev S8x64x2048 : Shape := ⟨3, ![8, 64, 2048]⟩
abbrev S8x2048 : Shape := ⟨2, ![8, 2048]⟩
abbrev S8192x8 : Shape := ⟨2, ![8192, 8]⟩
abbrev S1x8 : Shape := ⟨2, ![1, 8]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S1x2048x64 : Shape := ⟨3, ![1, 2048, 64]⟩
abbrev S2048x64 : Shape := ⟨2, ![2048, 64]⟩
abbrev S8192x64 : Shape := ⟨2, ![8192, 64]⟩
abbrev S1x64 : Shape := ⟨2, ![1, 64]⟩
abbrev S64 : Shape := ⟨1, ![64]⟩
abbrev S1x64x2048 : Shape := ⟨3, ![1, 64, 2048]⟩
abbrev S64x2048 : Shape := ⟨2, ![64, 2048]⟩
abbrev S1x2048 : Shape := ⟨2, ![1, 2048]⟩
abbrev S2048 : Shape := ⟨1, ![2048]⟩

abbrev nBuf : Space → Nat
  | .hbm => 274
  | .vmem => 0
  | .smem => 0
  | _ => 0

abbrev hbmTy0_0 (i : Nat) : BufTy := match i % 128 with
  | 0 => ⟨S8192x2048, .f32⟩
  | 1 => ⟨S2048x8, .f32⟩
  | 2 => ⟨S8, .f32⟩
  | 3 => ⟨S8x2048x64, .f32⟩
  | 4 => ⟨S8x64, .f32⟩
  | 5 => ⟨S8x64x2048, .f32⟩
  | 6 => ⟨S8x2048, .f32⟩
  | 7 => ⟨S8192x8, .f32⟩
  | 8 => ⟨S1x8, .f32⟩
  | 9 => ⟨S8192x8, .f32⟩
  | 10 => ⟨S8192x8, .f32⟩
  | 11 => ⟨S_, .f32⟩
  | 12 => ⟨S8192, .f32⟩
  | 13 => ⟨S_, .f32⟩
  | 14 => ⟨S8192, .f32⟩
  | 15 => ⟨S8192, .f32⟩
  | 16 => ⟨S8192x1, .f32⟩
  | 17 => ⟨S8192x8, .f32⟩
  | 18 => ⟨S8192x8, .f32⟩
  | 19 => ⟨S8192x8, .f32⟩
  | 20 => ⟨S_, .f32⟩
  | 21 => ⟨S8192, .f32⟩
  | 22 => ⟨S8192x1, .f32⟩
  | 23 => ⟨S8192x8, .f32⟩
  | 24 => ⟨S8192x8, .f32⟩
  | 25 => ⟨S8192x2, .f32⟩
  | 26 => ⟨S8192x2, .i32⟩
  | 27 => ⟨S_, .f32⟩
  | 28 => ⟨S8192, .f32⟩
  | 29 => ⟨S8192x1, .f32⟩
  | 30 => ⟨S8192x2, .f32⟩
  | 31 => ⟨S8192x2, .f32⟩
  | 32 => ⟨S_, .f32⟩
  | 33 => ⟨S8192x2048, .f32⟩
  | 34 => ⟨S1x2048x64, .f32⟩
  | 35 => ⟨S2048x64, .f32⟩
  | 36 => ⟨S8192x64, .f32⟩
  | 37 => ⟨S1x64, .f32⟩
  | 38 => ⟨S64, .f32⟩
  | 39 => ⟨S1x64, .f32⟩
  | 40 => ⟨S8192x64, .f32⟩
  | 41 => ⟨S8192x64, .f32⟩
  | 42 => ⟨S_, .f32⟩
  | 43 => ⟨S8192x64, .f32⟩
  | 44 => ⟨S8192x64, .f32⟩
  | 45 => ⟨S1x64x2048, .f32⟩
  | 46 => ⟨S64x2048, .f32⟩
  | 47 => ⟨S8192x2048, .f32⟩
  | 48 => ⟨S1x2048, .f32⟩
  | 49 => ⟨S2048, .f32⟩
  | 50 => ⟨S1x2048, .f32⟩
  | 51 => ⟨S8192x2048, .f32⟩
  | 52 => ⟨S8192x2048, .f32⟩
  | 53 => ⟨S_, .i32⟩
  | 54 => ⟨S8192x2, .i32⟩
  | 55 => ⟨S8192x2, .i1⟩
  | 56 => ⟨S8192x2, .f32⟩
  | 57 => ⟨S8192x2, .f32⟩
  | 58 => ⟨S_, .f32⟩
  | 59 => ⟨S8192, .f32⟩
  | 60 => ⟨S8192x1, .f32⟩
  | 61 => ⟨S8192x2048, .f32⟩
  | 62 => ⟨S8192x2048, .f32⟩
  | 63 => ⟨S8192x2048, .f32⟩
  | 64 => ⟨S1x2048x64, .f32⟩
  | 65 => ⟨S2048x64, .f32⟩
  | 66 => ⟨S8192x64, .f32⟩
  | 67 => ⟨S1x64, .f32⟩
  | 68 => ⟨S64, .f32⟩
  | 69 => ⟨S1x64, .f32⟩
  | 70 => ⟨S8192x64, .f32⟩
  | 71 => ⟨S8192x64, .f32⟩
  | 72 => ⟨S_, .f32⟩
  | 73 => ⟨S8192x64, .f32⟩
  | 74 => ⟨S8192x64, .f32⟩
  | 75 => ⟨S1x64x2048, .f32⟩
  | 76 => ⟨S64x2048, .f32⟩
  | 77 => ⟨S8192x2048, .f32⟩
  | 78 => ⟨S1x2048, .f32⟩
  | 79 => ⟨S2048, .f32⟩
  | 80 => ⟨S1x2048, .f32⟩
  | 81 => ⟨S8192x2048, .f32⟩
  | 82 => ⟨S8192x2048, .f32⟩
  | 83 => ⟨S_, .i32⟩
  | 84 => ⟨S8192x2, .i32⟩
  | 85 => ⟨S8192x2, .i1⟩
  | 86 => ⟨S8192x2, .f32⟩
  | 87 => ⟨S8192x2, .f32⟩
  | 88 => ⟨S_, .f32⟩
  | 89 => ⟨S8192, .f32⟩
  | 90 => ⟨S8192x1, .f32⟩
  | 91 => ⟨S8192x2048, .f32⟩
  | 92 => ⟨S8192x2048, .f32⟩
  | 93 => ⟨S8192x2048, .f32⟩
  | 94 => ⟨S1x2048x64, .f32⟩
  | 95 => ⟨S2048x64, .f32⟩
  | 96 => ⟨S8192x64, .f32⟩
  | 97 => ⟨S1x64, .f32⟩
  | 98 => ⟨S64, .f32⟩
  | 99 => ⟨S1x64, .f32⟩
  | 100 => ⟨S8192x64, .f32⟩
  | 101 => ⟨S8192x64, .f32⟩
  | 102 => ⟨S_, .f32⟩
  | 103 => ⟨S8192x64, .f32⟩
  | 104 => ⟨S8192x64, .f32⟩
  | 105 => ⟨S1x64x2048, .f32⟩
  | 106 => ⟨S64x2048, .f32⟩
  | 107 => ⟨S8192x2048, .f32⟩
  | 108 => ⟨S1x2048, .f32⟩
  | 109 => ⟨S2048, .f32⟩
  | 110 => ⟨S1x2048, .f32⟩
  | 111 => ⟨S8192x2048, .f32⟩
  | 112 => ⟨S8192x2048, .f32⟩
  | 113 => ⟨S_, .i32⟩
  | 114 => ⟨S8192x2, .i32⟩
  | 115 => ⟨S8192x2, .i1⟩
  | 116 => ⟨S8192x2, .f32⟩
  | 117 => ⟨S8192x2, .f32⟩
  | 118 => ⟨S_, .f32⟩
  | 119 => ⟨S8192, .f32⟩
  | 120 => ⟨S8192x1, .f32⟩
  | 121 => ⟨S8192x2048, .f32⟩
  | 122 => ⟨S8192x2048, .f32⟩
  | 123 => ⟨S8192x2048, .f32⟩
  | 124 => ⟨S1x2048x64, .f32⟩
  | 125 => ⟨S2048x64, .f32⟩
  | 126 => ⟨S8192x64, .f32⟩
  | 127 => ⟨S1x64, .f32⟩
  | _ => ⟨S8192x2048, .f32⟩

abbrev hbmTy0_1 (i : Nat) : BufTy := match i % 128 with
  | 0 => ⟨S64, .f32⟩
  | 1 => ⟨S1x64, .f32⟩
  | 2 => ⟨S8192x64, .f32⟩
  | 3 => ⟨S8192x64, .f32⟩
  | 4 => ⟨S_, .f32⟩
  | 5 => ⟨S8192x64, .f32⟩
  | 6 => ⟨S8192x64, .f32⟩
  | 7 => ⟨S1x64x2048, .f32⟩
  | 8 => ⟨S64x2048, .f32⟩
  | 9 => ⟨S8192x2048, .f32⟩
  | 10 => ⟨S1x2048, .f32⟩
  | 11 => ⟨S2048, .f32⟩
  | 12 => ⟨S1x2048, .f32⟩
  | 13 => ⟨S8192x2048, .f32⟩
  | 14 => ⟨S8192x2048, .f32⟩
  | 15 => ⟨S_, .i32⟩
  | 16 => ⟨S8192x2, .i32⟩
  | 17 => ⟨S8192x2, .i1⟩
  | 18 => ⟨S8192x2, .f32⟩
  | 19 => ⟨S8192x2, .f32⟩
  | 20 => ⟨S_, .f32⟩
  | 21 => ⟨S8192, .f32⟩
  | 22 => ⟨S8192x1, .f32⟩
  | 23 => ⟨S8192x2048, .f32⟩
  | 24 => ⟨S8192x2048, .f32⟩
  | 25 => ⟨S8192x2048, .f32⟩
  | 26 => ⟨S1x2048x64, .f32⟩
  | 27 => ⟨S2048x64, .f32⟩
  | 28 => ⟨S8192x64, .f32⟩
  | 29 => ⟨S1x64, .f32⟩
  | 30 => ⟨S64, .f32⟩
  | 31 => ⟨S1x64, .f32⟩
  | 32 => ⟨S8192x64, .f32⟩
  | 33 => ⟨S8192x64, .f32⟩
  | 34 => ⟨S_, .f32⟩
  | 35 => ⟨S8192x64, .f32⟩
  | 36 => ⟨S8192x64, .f32⟩
  | 37 => ⟨S1x64x2048, .f32⟩
  | 38 => ⟨S64x2048, .f32⟩
  | 39 => ⟨S8192x2048, .f32⟩
  | 40 => ⟨S1x2048, .f32⟩
  | 41 => ⟨S2048, .f32⟩
  | 42 => ⟨S1x2048, .f32⟩
  | 43 => ⟨S8192x2048, .f32⟩
  | 44 => ⟨S8192x2048, .f32⟩
  | 45 => ⟨S_, .i32⟩
  | 46 => ⟨S8192x2, .i32⟩
  | 47 => ⟨S8192x2, .i1⟩
  | 48 => ⟨S8192x2, .f32⟩
  | 49 => ⟨S8192x2, .f32⟩
  | 50 => ⟨S_, .f32⟩
  | 51 => ⟨S8192, .f32⟩
  | 52 => ⟨S8192x1, .f32⟩
  | 53 => ⟨S8192x2048, .f32⟩
  | 54 => ⟨S8192x2048, .f32⟩
  | 55 => ⟨S8192x2048, .f32⟩
  | 56 => ⟨S1x2048x64, .f32⟩
  | 57 => ⟨S2048x64, .f32⟩
  | 58 => ⟨S8192x64, .f32⟩
  | 59 => ⟨S1x64, .f32⟩
  | 60 => ⟨S64, .f32⟩
  | 61 => ⟨S1x64, .f32⟩
  | 62 => ⟨S8192x64, .f32⟩
  | 63 => ⟨S8192x64, .f32⟩
  | 64 => ⟨S_, .f32⟩
  | 65 => ⟨S8192x64, .f32⟩
  | 66 => ⟨S8192x64, .f32⟩
  | 67 => ⟨S1x64x2048, .f32⟩
  | 68 => ⟨S64x2048, .f32⟩
  | 69 => ⟨S8192x2048, .f32⟩
  | 70 => ⟨S1x2048, .f32⟩
  | 71 => ⟨S2048, .f32⟩
  | 72 => ⟨S1x2048, .f32⟩
  | 73 => ⟨S8192x2048, .f32⟩
  | 74 => ⟨S8192x2048, .f32⟩
  | 75 => ⟨S_, .i32⟩
  | 76 => ⟨S8192x2, .i32⟩
  | 77 => ⟨S8192x2, .i1⟩
  | 78 => ⟨S8192x2, .f32⟩
  | 79 => ⟨S8192x2, .f32⟩
  | 80 => ⟨S_, .f32⟩
  | 81 => ⟨S8192, .f32⟩
  | 82 => ⟨S8192x1, .f32⟩
  | 83 => ⟨S8192x2048, .f32⟩
  | 84 => ⟨S8192x2048, .f32⟩
  | 85 => ⟨S8192x2048, .f32⟩
  | 86 => ⟨S1x2048x64, .f32⟩
  | 87 => ⟨S2048x64, .f32⟩
  | 88 => ⟨S8192x64, .f32⟩
  | 89 => ⟨S1x64, .f32⟩
  | 90 => ⟨S64, .f32⟩
  | 91 => ⟨S1x64, .f32⟩
  | 92 => ⟨S8192x64, .f32⟩
  | 93 => ⟨S8192x64, .f32⟩
  | 94 => ⟨S_, .f32⟩
  | 95 => ⟨S8192x64, .f32⟩
  | 96 => ⟨S8192x64, .f32⟩
  | 97 => ⟨S1x64x2048, .f32⟩
  | 98 => ⟨S64x2048, .f32⟩
  | 99 => ⟨S8192x2048, .f32⟩
  | 100 => ⟨S1x2048, .f32⟩
  | 101 => ⟨S2048, .f32⟩
  | 102 => ⟨S1x2048, .f32⟩
  | 103 => ⟨S8192x2048, .f32⟩
  | 104 => ⟨S8192x2048, .f32⟩
  | 105 => ⟨S_, .i32⟩
  | 106 => ⟨S8192x2, .i32⟩
  | 107 => ⟨S8192x2, .i1⟩
  | 108 => ⟨S8192x2, .f32⟩
  | 109 => ⟨S8192x2, .f32⟩
  | 110 => ⟨S_, .f32⟩
  | 111 => ⟨S8192, .f32⟩
  | 112 => ⟨S8192x1, .f32⟩
  | 113 => ⟨S8192x2048, .f32⟩
  | 114 => ⟨S8192x2048, .f32⟩
  | 115 => ⟨S8192x2048, .f32⟩
  | 116 => ⟨S1x2048x64, .f32⟩
  | 117 => ⟨S2048x64, .f32⟩
  | 118 => ⟨S8192x64, .f32⟩
  | 119 => ⟨S1x64, .f32⟩
  | 120 => ⟨S64, .f32⟩
  | 121 => ⟨S1x64, .f32⟩
  | 122 => ⟨S8192x64, .f32⟩
  | 123 => ⟨S8192x64, .f32⟩
  | 124 => ⟨S_, .f32⟩
  | 125 => ⟨S8192x64, .f32⟩
  | 126 => ⟨S8192x64, .f32⟩
  | 127 => ⟨S1x64x2048, .f32⟩
  | _ => ⟨S8192x2048, .f32⟩

abbrev hbmTy0_2 (i : Nat) : BufTy := match i % 128 with
  | 0 => ⟨S64x2048, .f32⟩
  | 1 => ⟨S8192x2048, .f32⟩
  | 2 => ⟨S1x2048, .f32⟩
  | 3 => ⟨S2048, .f32⟩
  | 4 => ⟨S1x2048, .f32⟩
  | 5 => ⟨S8192x2048, .f32⟩
  | 6 => ⟨S8192x2048, .f32⟩
  | 7 => ⟨S_, .i32⟩
  | 8 => ⟨S8192x2, .i32⟩
  | 9 => ⟨S8192x2, .i1⟩
  | 10 => ⟨S8192x2, .f32⟩
  | 11 => ⟨S8192x2, .f32⟩
  | 12 => ⟨S_, .f32⟩
  | 13 => ⟨S8192, .f32⟩
  | 14 => ⟨S8192x1, .f32⟩
  | 15 => ⟨S8192x2048, .f32⟩
  | 16 => ⟨S8192x2048, .f32⟩
  | 17 => ⟨S8192x2048, .f32⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_values : Ref sig .tc := ⟨.hbm, 25, rfl⟩
abbrev main_indices : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_call1_cst : Ref sig .tc := ⟨.hbm, 72, rfl⟩
abbrev main_call1_v0 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_5 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_6 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_call2_cst : Ref sig .tc := ⟨.hbm, 102, rfl⟩
abbrev main_call2_v0 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_c_7 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_8 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_call3_cst : Ref sig .tc := ⟨.hbm, 132, rfl⟩
abbrev main_call3_v0 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_c_9 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_10 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_call4_cst : Ref sig .tc := ⟨.hbm, 162, rfl⟩
abbrev main_call4_v0 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_c_11 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_cst_12 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_call5_cst : Ref sig .tc := ⟨.hbm, 192, rfl⟩
abbrev main_call5_v0 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_c_13 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_cst_14 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_call6_cst : Ref sig .tc := ⟨.hbm, 222, rfl⟩
abbrev main_call6_v0 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_c_15 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_cst_16 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_call7_cst : Ref sig .tc := ⟨.hbm, 252, rfl⟩
abbrev main_call7_v0 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_c_17 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_cst_18 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩

abbrev nD : Nat := 1
abbrev τ : Topo := Topo.v7x

variable {F : FTy → Type} [FloatOps F]
-- ==== Proof.TopTwo.lean ====
/- Choosing two experts of eight from their router scores, as plain mathematics over the extended reals: the first
   greatest score, the first greatest among the others, the weight each expert gets, and the two ways the programs find
   them — by maxima and least positions, and by a stable descending sort. -/
module

public import Idealize.ShloMosaic.PureOps.Ideal
public import Idealize.ShloMosaic.PureOps.Ideal.Laws
public import Idealize.ShloMosaic.Lib.SortPrefix
public import Idealize.ShloMosaic.Lib.IdealHost
public import Mathlib.Data.Fintype.Order
public import Mathlib.Tactic.FieldSimp
public import Mathlib.Tactic.Linarith

@[expose] public section

noncomputable section

namespace Cert.Moe

open Idealize.ShloMosaic

/-- The word of the negative infinity is the least extended real. -/
theorem ofBits_negInf : Ideal.ofBits .f32 0xFF800000#32 = ⊥ := by
  simp [Ideal.ofBits, Ideal.ieee]

/-- The word of the positive infinity is the greatest extended real. -/
theorem ofBits_posInf : Ideal.ofBits .f32 0x7F800000#32 = ⊤ := by
  simp [Ideal.ofBits, Ideal.ieee]

/-! ## The first greatest of eight scores -/

/-- `a` is the first position at which `f` takes its greatest value. -/
structure FirstMax (f : Fin 8 → EReal) (a : Fin 8) : Prop where
  le : ∀ e, f e ≤ f a
  lt : ∀ e, e < a → f e < f a

/-- Every eight scores have a first greatest. -/
theorem exists_firstMax (f : Fin 8 → EReal) : ∃ a, FirstMax f a := by
  classical
  obtain ⟨m, hm⟩ := Finite.exists_max f
  have hne : (Finset.univ.filter fun e => f e = f m).Nonempty := ⟨m, by simp⟩
  have hmem := Finset.min'_mem _ hne
  have hval : f ((Finset.univ.filter fun e => f e = f m).min' hne) = f m := (Finset.mem_filter.mp hmem).2
  refine ⟨_, fun e => hval ▸ hm e, fun e he => ?_⟩
  rw [hval]
  refine lt_of_le_of_ne (hm e) fun heq => ?_
  exact absurd (Finset.min'_le _ e (by simp [heq])) (not_le.mpr he)

/-- The first position of the greatest score. -/
def first (f : Fin 8 → EReal) : Fin 8 := (exists_firstMax f).choose

theorem first_spec (f : Fin 8 → EReal) : FirstMax f (first f) := (exists_firstMax f).choose_spec

/-- The scores with the first greatest one struck out. -/
def others (f : Fin 8 → EReal) : Fin 8 → EReal := fun e => if e = first f then ⊥ else f e

/-- The first position of the greatest of the other scores. -/
def second (f : Fin 8 → EReal) : Fin 8 := first (others f)

/-- The weight of the best expert against the second best: the logistic function of the difference of their scores. -/
def share (f : Fin 8 → EReal) : EReal := Ideal.div 1 (1 + Ideal.exp (others f (second f) - f (first f)))

/-- The weight of each of the eight experts: `share` for the best, the rest for the second best, nothing for the others. -/
def weight (f : Fin 8 → EReal) (e : Fin 8) : EReal :=
  (if e = first f then share f else 0) + (if e = second f then 1 - share f else 0)

/-! ## Found by maxima and least positions -/

/-- The maximum of the eight scores is the score at the first greatest. -/
theorem fold_max_eq {f : Fin 8 → EReal} {a : Fin 8} (h : FirstMax f a) : Finset.univ.fold max ⊥ f = f a := by
  apply le_antisymm
  · exact (Finset.fold_max_le _).mpr ⟨bot_le, fun e _ => h.le e⟩
  · exact (Finset.le_fold_max _).mpr (Or.inr ⟨a, Finset.mem_univ a, le_rfl⟩)

/-- The least marked position of eight, as a signed minimum of words in which an unmarked position counts as 8. -/
theorem fold_minsi_marks : ∀ (p : Fin 8 → Bool) (a : Fin 8), p a = true → (∀ e, e < a → p e = false) →
    Finset.univ.fold IntOp.minsi 2147483647#32 (fun e : Fin 8 => if p e then BitVec.ofNat 32 e.val else 8#32)
      = BitVec.ofNat 32 a.val := by
  decide +kernel

/-- So the least position whose score equals the greatest one is the first greatest. -/
theorem fold_minsi_eq {f : Fin 8 → EReal} {a : Fin 8} (h : FirstMax f a) :
    Finset.univ.fold IntOp.minsi 2147483647#32
        (fun e : Fin 8 => if f e = f a then BitVec.ofNat 32 e.val else 8#32)
      = BitVec.ofNat 32 a.val := by
  rw [← fold_minsi_marks (fun e => decide (f e = f a)) a (by simp) fun e he => by simpa using (h.lt e he).ne]
  simp only [decide_eq_true_eq]

/-! ## Found by a stable descending sort -/

/-- Two relations that agree whenever the later element is compared with the earlier one sort an increasing list alike. -/
theorem stableSort_eq_of_later {n : Nat} (R B : Fin n → Fin n → Bool) (l : List (Fin n)) (hl : l.Pairwise (· < ·))
    (h : ∀ a b : Fin n, a < b → R b a = B b a) : stableSort R l = stableSort B l := by
  induction l with
  | nil => rfl
  | cons a l ih =>
    rw [List.pairwise_cons] at hl
    unfold stableSort
    rw [ih hl.2]
    exact insertBefore_congr R B a _ fun b hb => h a b (hl.1 b ((perm_stableSort B l).mem_iff.mp hb))

/-- A stable descending sort of eight scores puts in front the first greatest and then the first greatest of the others. -/
theorem sortedFrom_top (g : Fin 8 → EReal) (σ : Fin 2 → Fin 8) (hne : σ 0 ≠ σ 1) (h0 : FirstMax g (σ 0))
    (h1 : ∀ e, e ≠ σ 0 → g e ≤ g (σ 1)) (h1' : ∀ e, e ≠ σ 0 → e < σ 1 → g e < g (σ 1)) (i : Fin 2) :
    sortedFrom (fun k k' => Ideal.cmp .ogt (g k) (g k') == 1#1) (i.castLE (by decide)) = σ i := by
  classical
  have hcmp : ∀ x y : EReal, (Ideal.cmp .ogt x y == 1#1) = decide (y < x) := fun x y => by
    by_cases hq : y < x <;> simp [Ideal.cmp, hq]
  have hB := StrictTotalBefore.of_key_then_position (fun x y : EReal => decide (y < x)) g (fun a => by simp)
    (fun a b c hab hbc => by simp only [decide_eq_true_eq] at *; exact hbc.trans hab)
    (fun a b => by simp only [decide_eq_true_eq]; rcases lt_trichotomy a b with h | h | h <;> simp [h])
  have hsort : sortedFrom (fun k k' => Ideal.cmp .ogt (g k) (g k') == 1#1)
      = sortedFrom fun k k' : Fin 8 => decide (g k' < g k) || (decide (g k = g k') && decide (k < k')) := by
    funext k
    exact List.get_of_eq (stableSort_eq_of_later _ _ _ (List.pairwise_lt_finRange 8) fun a b hab => by
      rw [hcmp]; simp [not_lt.mpr hab.le]) _
  rw [hsort]
  have hle : g (σ 1) ≤ g (σ 0) := h0.le _
  refine hB.sortedFrom_eq_of_prefix (by decide) σ ?_ ?_ ?_ i
  · intro i j hij
    fin_cases i <;> fin_cases j <;> first | rfl | exact absurd hij hne | exact absurd hij.symm hne
  · intro i j hij
    fin_cases i <;> fin_cases j <;> first | exact absurd hij (by decide) | skip
    have hpos : g (σ 1) = g (σ 0) → ¬ σ 1 < σ 0 := fun heq hlt => (h0.lt _ hlt).ne heq
    simpa [not_lt.mpr hle] using hpos
  · intro i p hp
    have hp0 : p ≠ σ 0 := (hp 0).symm
    have hp1 : p ≠ σ 1 := (hp 1).symm
    fin_cases i
    · have hpos : g p = g (σ 0) → ¬ p < σ 0 := fun heq hlt => (h0.lt _ hlt).ne heq
      simpa [not_lt.mpr (h0.le p)] using hpos
    · have hpos : g p = g (σ 1) → ¬ p < σ 1 := fun heq hlt => (h1' _ hp0 hlt).ne heq
      simpa [not_lt.mpr (h1 p hp0)] using hpos

/-! ## Real scores -/

/-- A finite sum of reals is the same among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

section Real

variable (f : Fin 8 → EReal) (r : Fin 8 → ℝ) (hf : ∀ e, f e = (r e : EReal))
include hf

/-- Of real scores the second greatest is at another position than the greatest. -/
theorem second_ne_first : second f ≠ first f := by
  intro h
  obtain ⟨e, he⟩ := exists_ne (first f)
  have hle := (first_spec (others f)).le e
  rw [show first (others f) = first f from h] at hle
  simp only [others, if_neg he, if_true, hf e, le_bot_iff] at hle
  exact EReal.coe_ne_bot _ hle

/-- The second greatest score is not struck out. -/
theorem others_second : others f (second f) = (r (second f) : EReal) := by
  rw [others, if_neg (second_ne_first f r hf), hf]

/-- No score but the greatest exceeds the second greatest. -/
theorem le_second (e : Fin 8) (he : e ≠ first f) : r e ≤ r (second f) := by
  have hle := (first_spec (others f)).le e
  rw [show others f (first (others f)) = _ from others_second f r hf, others, if_neg he, hf e] at hle
  exact EReal.coe_le_coe_iff.mp hle

/-- A score before the second greatest, and not the greatest, is less. -/
theorem lt_second (e : Fin 8) (he : e ≠ first f) (hlt : e < second f) : r e < r (second f) := by
  have hle := (first_spec (others f)).lt e hlt
  rw [show others f (first (others f)) = _ from others_second f r hf, others, if_neg he, hf e] at hle
  exact EReal.coe_lt_coe_iff.mp hle

theorem le_first (e : Fin 8) : r e ≤ r (first f) := by
  have h := (first_spec f).le e
  rw [hf, hf] at h
  exact EReal.coe_le_coe_iff.mp h

theorem lt_first (e : Fin 8) (hlt : e < first f) : r e < r (first f) := by
  have h := (first_spec f).lt e hlt
  rw [hf, hf] at h
  exact EReal.coe_lt_coe_iff.mp h

/-- The best expert's weight is the real logistic function of the difference of the two scores. -/
theorem share_eq : share f = ((1 / (1 + Real.exp (r (second f) - r (first f))) : ℝ) : EReal) := by
  rw [share, others_second f r hf, hf (first f), ← EReal.coe_sub, Ideal.exp_coe, ← EReal.coe_one, ← EReal.coe_add,
    Ideal.div_coe (by positivity), ← EReal.coe_mul, one_mul]

/-- The weights are reals, and not negative. -/
theorem weight_real (e : Fin 8) : ∃ w : ℝ, 0 ≤ w ∧ weight f e = (w : EReal) := by
  have hpos := Real.exp_pos (r (second f) - r (first f))
  have h1 : 1 / (1 + Real.exp (r (second f) - r (first f))) ≤ 1 := by
    rw [div_le_one (by positivity)]; linarith
  refine ⟨(if e = first f then 1 / (1 + Real.exp (r (second f) - r (first f))) else 0)
    + (if e = second f then 1 - 1 / (1 + Real.exp (r (second f) - r (first f))) else 0), ?_, ?_⟩
  · refine add_nonneg ?_ ?_
    · split <;> positivity
    · split
      · linarith
      · exact le_rfl
  · rw [weight, share_eq f r hf, EReal.coe_add]
    congr 1 <;> split <;> simp

/-- The softmax of the scores, over the exponentials of their differences from the greatest. -/
theorem softmax_eq (e : Fin 8) :
    Ideal.div (Ideal.exp (f e - f (first f))) (∑ j, Ideal.exp (f j - f (first f)))
      = ((Real.exp (r e - r (first f)) / ∑ j, Real.exp (r j - r (first f)) : ℝ) : EReal) := by
  have hexp : ∀ j, Ideal.exp (f j - f (first f)) = ((Real.exp (r j - r (first f)) : ℝ) : EReal) := fun j => by
    rw [hf, hf, ← EReal.coe_sub, Ideal.exp_coe]
  have hS : (∑ j, Ideal.exp (f j - f (first f))) = ((∑ j, Real.exp (r j - r (first f)) : ℝ) : EReal) := by
    rw [coe_sum]
    exact Finset.sum_congr rfl fun j _ => hexp j
  have hpos : 0 < ∑ j, Real.exp (r j - r (first f)) :=
    Finset.sum_pos (fun j _ => Real.exp_pos _) Finset.univ_nonempty
  rw [hS, hexp, Ideal.div_coe hpos.ne', ← EReal.coe_mul, mul_one_div]

/-- The softmax keeps the order of the scores, so its stable descending sort starts with the two chosen experts. -/
theorem sortedFrom_softmax (g : Fin 8 → EReal)
    (hg : ∀ e, g e = Ideal.div (Ideal.exp (f e - f (first f))) (∑ j, Ideal.exp (f j - f (first f)))) (i : Fin 2) :
    sortedFrom (fun k k' => Ideal.cmp .ogt (g k) (g k') == 1#1) (i.castLE (by decide)) = ![first f, second f] i := by
  have hpos : 0 < ∑ j, Real.exp (r j - r (first f)) :=
    Finset.sum_pos (fun j _ => Real.exp_pos _) Finset.univ_nonempty
  have hle : ∀ a b, r a ≤ r b → g a ≤ g b := fun a b h => by
    rw [hg, hg, softmax_eq f r hf, softmax_eq f r hf, EReal.coe_le_coe_iff]
    gcongr
  have hlt : ∀ a b, r a < r b → g a < g b := fun a b h => by
    rw [hg, hg, softmax_eq f r hf, softmax_eq f r hf, EReal.coe_lt_coe_iff]
    gcongr
  refine sortedFrom_top g ![first f, second f] (second_ne_first f r hf).symm
    ⟨fun e => hle _ _ (le_first f r hf e), fun e he => hlt _ _ (lt_first f r hf e he)⟩
    (fun e he => hle _ _ (le_second f r hf e he)) (fun e he h => hlt _ _ (lt_second f r hf e he h)) i

/-- The two greatest softmax values, divided by their sum, and given to the experts they belong to: the same weights. -/
theorem weight_of_softmax (g : Fin 8 → EReal)
    (hg : ∀ e, g e = Ideal.div (Ideal.exp (f e - f (first f))) (∑ j, Ideal.exp (f j - f (first f)))) (e : Fin 8) :
    Ideal.div (g (first f)) (g (first f) + g (second f)) * (if first f = e then 1 else 0)
      + Ideal.div (g (second f)) (g (first f) + g (second f)) * (if second f = e then 1 else 0) = weight f e := by
  have hpos : 0 < ∑ j, Real.exp (r j - r (first f)) :=
    Finset.sum_pos (fun j _ => Real.exp_pos _) Finset.univ_nonempty
  have hq := Real.exp_pos (r (second f) - r (first f))
  have hT : 0 < 1 / (∑ j, Real.exp (r j - r (first f)))
      + Real.exp (r (second f) - r (first f)) / ∑ j, Real.exp (r j - r (first f)) := by positivity
  have e1 : Ideal.div (g (first f)) (g (first f) + g (second f)) = share f := by
    rw [share_eq f r hf, hg, hg, softmax_eq f r hf, softmax_eq f r hf, sub_self, Real.exp_zero, ← EReal.coe_add,
      Ideal.div_coe hT.ne', ← EReal.coe_mul, EReal.coe_eq_coe_iff]
    field_simp
  have e2 : Ideal.div (g (second f)) (g (first f) + g (second f)) = 1 - share f := by
    rw [share_eq f r hf, hg, hg, softmax_eq f r hf, softmax_eq f r hf, sub_self, Real.exp_zero, ← EReal.coe_add,
      Ideal.div_coe hT.ne', ← EReal.coe_mul, ← EReal.coe_one, ← EReal.coe_sub, EReal.coe_eq_coe_iff]
    field_simp
    ring
  rw [e1, e2, weight]
  congr 1
  · by_cases h : e = first f
    · simp [h]
    · rw [if_neg h, if_neg (Ne.symm h), mul_zero]
  · by_cases h : e = second f
    · simp [h]
    · rw [if_neg h, if_neg (Ne.symm h), mul_zero]

end Real

end Cert.Moe

end
-- ==== Proof.Layer.lean ====
/- The layer as plain mathematics, one token at a time: the router's scores, an expert's output, and the sum of the
   experts' outputs by their weights; and the same sum taken over all hidden units of all experts at once. -/
module

public import proofs.«01_k».proof.Proof.TopTwo
public import Idealize.ShloMosaic.Lib.Pointwise.Sums

@[expose] public section

noncomputable section

namespace Cert.Moe

open Idealize.ShloMosaic

/-- The router's score of expert `e` for a token with entries `x`. -/
def score (x : Fin 2048 → EReal) (wr : Fin 2048 → Fin 8 → EReal) (e : Fin 8) : EReal := ∑ k, x k * wr k e

/-- Hidden unit `h` of expert `e`: the projected token, cut off below at zero. -/
def unit (x : Fin 2048 → EReal) (wd : Fin 8 → Fin 2048 → Fin 64 → EReal) (e : Fin 8) (h : Fin 64) : EReal :=
  max (∑ k, x k * wd e k h) 0

/-- Entry `d` of expert `e`'s output. -/
def expert (x : Fin 2048 → EReal) (wd : Fin 8 → Fin 2048 → Fin 64 → EReal) (wu : Fin 8 → Fin 64 → Fin 2048 → EReal)
    (e : Fin 8) (d : Fin 2048) : EReal := ∑ h, unit x wd e h * wu e h d

/-- Entry `d` of the layer's output: the experts' outputs, each times its weight, summed. -/
def layer (x : Fin 2048 → EReal) (wr : Fin 2048 → Fin 8 → EReal) (wd : Fin 8 → Fin 2048 → Fin 64 → EReal)
    (wu : Fin 8 → Fin 64 → Fin 2048 → EReal) (d : Fin 2048) : EReal :=
  ∑ e, weight (score x wr) e * expert x wd wu e d

/-- A finite token and finite router weights have finite scores. -/
theorem exists_real_score (x : Fin 2048 → EReal) (wr : Fin 2048 → Fin 8 → EReal)
    (hx : ∀ k, ∃ r : ℝ, x k = (r : EReal)) (hw : ∀ k e, ∃ r : ℝ, wr k e = (r : EReal)) :
    ∃ r : Fin 8 → ℝ, ∀ e, score x wr e = (r e : EReal) := by
  choose a ha using hx
  choose b hb using hw
  refine ⟨fun e => ∑ k, a k * b k e, fun e => ?_⟩
  rw [score, coe_sum]
  exact Finset.sum_congr rfl fun k _ => by rw [ha, hb, EReal.coe_mul]

/-- A real weight that is not negative may be taken into a sum of extended reals. -/
theorem mul_sum_of_nonneg {ι : Type} (s : Finset ι) (w : ℝ) (hw : 0 ≤ w) (f : ι → EReal) :
    (w : EReal) * ∑ i ∈ s, f i = ∑ i ∈ s, (w : EReal) * f i := by
  classical
  induction s using Finset.induction_on with
  | empty => simp
  | insert i s hi ih =>
    rw [Finset.sum_insert hi, Finset.sum_insert hi,
      EReal.left_distrib_of_nonneg_of_ne_top (EReal.coe_nonneg.mpr hw) (EReal.coe_ne_top w), ih]

/-- Expert and hidden unit of the `c`-th of all 512 hidden units. -/
def expertOf (c : Fin 512) : Fin 8 := ⟨c.val / 64, by omega⟩
def unitOf (c : Fin 512) : Fin 64 := ⟨c.val % 64, by omega⟩

/-- The layer with the weights put on the hidden units: one sum over all 512 units of all experts. -/
theorem layer_eq_sum_units (x : Fin 2048 → EReal) (wr : Fin 2048 → Fin 8 → EReal)
    (wd : Fin 8 → Fin 2048 → Fin 64 → EReal) (wu : Fin 8 → Fin 64 → Fin 2048 → EReal) (d : Fin 2048)
    (hs : ∃ r : Fin 8 → ℝ, ∀ e, score x wr e = (r e : EReal)) :
    ∑ c : Fin 512, unit x wd (expertOf c) (unitOf c) * weight (score x wr) (expertOf c) * wu (expertOf c) (unitOf c) d
      = layer x wr wd wu d := by
  obtain ⟨r, hr⟩ := hs
  rw [Fin.sum_univ_tiles 8 64 rfl]
  refine Finset.sum_congr rfl fun e _ => ?_
  obtain ⟨w, hw, hwe⟩ := weight_real _ r hr e
  rw [expert, hwe, mul_sum_of_nonneg _ w hw]
  refine Finset.sum_congr rfl fun h _ => ?_
  have he : expertOf ⟨e.val * 64 + h.val, by omega⟩ = e := Fin.ext (by simp only [expertOf]; omega)
  have hu : unitOf ⟨e.val * 64 + h.val, by omega⟩ = h := Fin.ext (by simp only [unitOf]; omega)
  rw [he, hu, hwe, mul_comm (unit x wd e h) (w : EReal), mul_assoc]

end Cert.Moe

end
-- ==== Proof.KernelBlock.lean ====
/- What one block of the kernel computes: from a block of tokens, the router weights and the two stacked expert matrices
   the body leaves, at token `t` and entry `d`, the sum over all 512 hidden units of the cut-off projection times the
   weight of the unit's expert times the second matrix's entry. -/
module

public import proofs.«01_k».proof.Proof.Gen.KernelIdeal.Value
public import proofs.«01_k».proof.Proof.Layer
public import Idealize.ShloMosaic.Lib.Pointwise

@[expose] public section

noncomputable section

namespace Cert.KernelIdeal.Layer

open Cert.KernelIdeal Cert.KernelIdeal.Gen Cert.Moe
open Idealize.ShloMosaic Idealize.ShloMosaic.TcCoe Idealize.SL.Sem

section Router

variable (x : Vec Ideal S1024x2048 .f32) (w : Vec Ideal S2048x8 .bf16)

/-- The router's scores of token `t` of the block. -/
abbrev rowScore (t : Fin 1024) : Fin 8 → EReal := score (fun k => x (ix2 t k)) (fun k e => w (ix2 k e))

/-- The scores stand with the experts along the first axis. -/
theorem pay2_apply (e : Fin 8) (t : Fin 1024) : k0_pay2 x w (ix2 e t) = rowScore x w t e := by
  pointwise [k0_pay2, k0_pay1]
  rfl

/-- The greatest score. -/
theorem pay3_apply (e : Fin 1) (t : Fin 1024) : k0_pay3 x w (ix2 e t) = rowScore x w t (first (rowScore x w t)) := by
  pointwise [k0_pay3]
  simp only [pay2_apply]
  rw [ofBits_negInf]
  exact fold_max_eq (first_spec (rowScore x w t))

/-- Two positions as words are equal just when they are equal. -/
theorem eq_word (e a : Fin 8) :
    IntOp.cmpi .eq (BitVec.ofNat 32 e.val) (BitVec.ofNat 32 a.val) = if e = a then 1#1 else 0#1 := by
  revert e a
  decide +kernel

/-- The mark of the best expert. -/
theorem pay4_apply (e : Fin 8) (t : Fin 1024) :
    k0_pay4 x w (ix2 e t) = if e = first (rowScore x w t) then 1#1 else 0#1 := by
  pointwise [k0_pay4]
  simp only [pay2_apply, pay3_apply]
  rw [fold_minsi_eq (first_spec (rowScore x w t)), eq_word]

/-- The scores with the best one struck out. -/
theorem pay5_apply (e : Fin 8) (t : Fin 1024) : k0_pay5 x w (ix2 e t) = others (rowScore x w t) e := by
  pointwise [k0_pay5]
  rw [pay4_apply, pay2_apply, ofBits_negInf, others]
  split <;> rfl

/-- The greatest of the others. -/
theorem pay6_apply (e : Fin 1) (t : Fin 1024) :
    k0_pay6 x w (ix2 e t) = others (rowScore x w t) (second (rowScore x w t)) := by
  pointwise [k0_pay6]
  simp only [pay5_apply]
  rw [ofBits_negInf]
  exact fold_max_eq (first_spec (others (rowScore x w t)))

/-- The mark of the second best expert. -/
theorem pay7_apply (e : Fin 8) (t : Fin 1024) :
    k0_pay7 x w (ix2 e t) = if e = second (rowScore x w t) then 1#1 else 0#1 := by
  pointwise [k0_pay7]
  simp only [pay5_apply, pay6_apply]
  rw [second, fold_minsi_eq (first_spec (others (rowScore x w t))), eq_word]

/-- The best expert's weight. -/
theorem pay8_apply (e : Fin 1) (t : Fin 1024) : k0_pay8 x w (ix2 e t) = share (rowScore x w t) := by
  pointwise [k0_pay8]
  rw [pay6_apply, pay3_apply]
  rfl

/-- The best expert's weight at its own row, zero at the others. -/
theorem pay9_apply (e : Fin 8) (t : Fin 1024) :
    k0_pay9 x w (ix2 e t) = if e = first (rowScore x w t) then share (rowScore x w t) else 0 := by
  pointwise [k0_pay9]
  rw [pay4_apply, pay8_apply]
  split <;> rfl

/-- The second best expert's weight. -/
theorem pay10_apply (e : Fin 1) (t : Fin 1024) : k0_pay10 x w (ix2 e t) = 1 - share (rowScore x w t) := by
  pointwise [k0_pay10]
  rw [pay8_apply]

end Router

/-- The quotient of the word `c` by 64 rounded down, as the body computes it: the quotient rounded to zero, less one
    where the signs differ and the division leaves a remainder. -/
def quotient (c : BitVec 32) : BitVec 32 :=
  Scalar.select
    (IntOp.andi
      (IntOp.cmpi .ne
        (IntOp.subi (BitVec.setWidth 32 (IntOp.cmpi .sgt c 0#32)) (BitVec.setWidth 32 (IntOp.cmpi .slt c 0#32)))
        (Scalar.subi (Scalar.extui (Scalar.cmpi .sgt 64#32 0#32)) (Scalar.extui (Scalar.cmpi .slt 64#32 0#32))))
      (IntOp.cmpi .ne (IntOp.remsi .vector c 64#32) 0#32))
    (IntOp.subi (IntOp.divsi .vector c 64#32) 1#32)
    (IntOp.divsi .vector c 64#32)

/-- The quotient at every hidden unit of every expert. -/
theorem quotient_unit : ∀ (e : Fin 8) (h : Fin 64), quotient (BitVec.ofNat 32 (e.val * 64 + h.val)) = BitVec.ofNat 32 e.val := by
  decide +kernel

/-- So the body finds the expert of a hidden unit. -/
theorem expert_word (c : Fin 512) : quotient (BitVec.ofNat 32 c.val) = BitVec.ofNat 32 (expertOf c).val := by
  have h := quotient_unit (expertOf c) (unitOf c)
  rwa [show (expertOf c).val * 64 + (unitOf c).val = c.val from Nat.div_add_mod' c.val 64] at h

/-- A mark as a number. -/
theorem mark_number (e a : Fin 8) :
    FloatOps.sitofp (F := Ideal) .f32 (BitVec.setWidth 32 (IntOp.cmpi .eq (BitVec.ofNat 32 e.val) (BitVec.ofNat 32 a.val)))
      = if e = a then (1 : EReal) else 0 := by
  rw [eq_word]
  split
  · show (((BitVec.setWidth 32 1#1).toInt : ℝ) : EReal) = 1
    norm_num
  · show (((BitVec.setWidth 32 0#1).toInt : ℝ) : EReal) = 0
    norm_num

/-- The body's result for a block. -/
theorem body_apply (x : Vec Ideal S1024x2048 .f32) (w : Vec Ideal S2048x8 .bf16) (wd : Vec Ideal S2048x512 .bf16)
    (wu : Vec Ideal S512x2048 .bf16) (t : Fin 1024) (d : Fin 2048) :
    k0_pay11 (k0_pay1 x) (k0_pay7 x w) (k0_pay9 x w) (Scalar.ofBits .f32 0x00000000#32) (k0_pay10 x w) wd wu (ix2 t d)
      = ∑ c : Fin 512, max (∑ k, x (ix2 t k) * wd (ix2 k c)) 0 * weight (rowScore x w t) (expertOf c) * wu (ix2 c d) := by
  pointwise [k0_pay11, k0_pay1]
  refine Finset.sum_congr rfl fun c _ => ?_
  refine congrArg (· * wu (ix2 c d)) (congrArg (max (∑ k, x (ix2 t k) * wd (ix2 k c)) 0 * ·) ?_)
  simp only [← quotient.eq_1, expert_word, mark_number, pay7_apply, pay9_apply, pay10_apply]
  rw [Finset.sum_eq_single (expertOf c)]
  · rw [if_pos rfl, mul_one, weight]
    refine congrArg ((if expertOf c = first (rowScore x w t) then share (rowScore x w t) else 0) + ·) ?_
    split <;> rfl
  · intro e _ he
    rw [if_neg he, mul_zero]
  · exact fun h => absurd (Finset.mem_univ _) h

/-- So the body's result is the layer, when the block's arrays hold the token's entries, the router weights and the expert
    matrices stacked by hidden unit, and the scores are real. -/
theorem body_layer (x : Vec Ideal S1024x2048 .f32) (w : Vec Ideal S2048x8 .bf16) (wd : Vec Ideal S2048x512 .bf16)
    (wu : Vec Ideal S512x2048 .bf16) (t : Fin 1024) (d : Fin 2048) (tok : Fin 2048 → EReal) (wr : Fin 2048 → Fin 8 → EReal)
    (down : Fin 8 → Fin 2048 → Fin 64 → EReal) (up : Fin 8 → Fin 64 → Fin 2048 → EReal)
    (hx : ∀ k, x (ix2 t k) = tok k) (hw : ∀ k e, w (ix2 k e) = wr k e)
    (hwd : ∀ k u, wd (ix2 k u) = down (expertOf u) k (unitOf u)) (hwu : ∀ u d, wu (ix2 u d) = up (expertOf u) (unitOf u) d)
    (hs : ∃ r : Fin 8 → ℝ, ∀ e, score tok wr e = (r e : EReal)) :
    k0_pay11 (k0_pay1 x) (k0_pay7 x w) (k0_pay9 x w) (Scalar.ofBits .f32 0x00000000#32) (k0_pay10 x w) wd wu (ix2 t d)
      = layer tok wr down up d := by
  have hscore : rowScore x w t = score tok wr := by simp only [rowScore, hx, hw]
  rw [body_apply, hscore, ← layer_eq_sum_units tok wr down up d hs]
  simp only [hx, hwd, hwu]
  rfl

end Cert.KernelIdeal.Layer

end
-- ==== Proof.KernelArray.lean ====
/- What the kernel's result array holds after the run: every row block is the body's result for its tokens, and together
   the eight blocks are the layer of Proof/Layer.lean at every token and entry. -/
module

public import proofs.«01_k».proof.Proof.KernelBlock
public import Idealize.ShloMosaic.Lib.Pipeline.Value
public import Idealize.ShloMosaic.Lib.StableHlo.Run

@[expose] public section

noncomputable section

namespace Cert.KernelIdeal.Layer

open Cert.KernelIdeal Cert.KernelIdeal.Gen Cert.Moe
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arguments on device `c`. -/
abbrev aX (c : Dev nD) : FVec Ideal S8192x2048 .f32 := m ((c.tc : Thread nD τ).loc main_arg0)
abbrev aWr (c : Dev nD) : FVec Ideal S2048x8 .f32 := m ((c.tc : Thread nD τ).loc main_arg1)
abbrev aWd (c : Dev nD) : FVec Ideal S8x2048x64 .f32 := m ((c.tc : Thread nD τ).loc main_arg3)
abbrev aWu (c : Dev nD) : FVec Ideal S8x64x2048 .f32 := m ((c.tc : Thread nD τ).loc main_arg5)

/-! ## The arrays the blocks are cut from -/

/-- The router weights reach the region unchanged. -/
theorem router_entry (c : Dev nD) : (V m c main_v5 : FVec Ideal S2048x8 .bf16) = aWr m c := by
  show StableHlo.after hostOps0 (fun b => m (c, b)) (Proc.devRef .tc main_v5) = _
  after_results
  rfl

/-- The first expert matrices, stacked side by side: column `u` belongs to a hidden unit of an expert. -/
theorem down_entry (c : Dev nD) (k : Fin 2048) (u : Fin 512) :
    (V m c main_v2 : FVec Ideal S2048x512 .bf16) (ix2 k u) = aWd m c (ix3 (expertOf u) k (unitOf u)) := by
  have h : (V m c main_v2 : FVec Ideal S2048x512 .bf16) = shapeCast S2048x512 (transpose S2048x8x64 [1, 0, 2]
      (truncf (F := Ideal) .bf16 (aWd m c) bitsLt_bf16_f32) transposes_S8x2048x64_S2048x8x64_1_0_2) shapeCasts_S2048x8x64_S2048x512 := by
    show StableHlo.after hostOps0 (fun b => m (c, b)) (Proc.devRef .tc main_v2) = _
    after_results
    rfl
  rw [h]
  pointwise []
  rfl

/-- The second expert matrices, stacked on top of each other. -/
theorem up_entry (c : Dev nD) (u : Fin 512) (d : Fin 2048) :
    (V m c main_v4 : FVec Ideal S512x2048 .bf16) (ix2 u d) = aWu m c (ix3 (expertOf u) (unitOf u) d) := by
  have h : (V m c main_v4 : FVec Ideal S512x2048 .bf16) = shapeCast S512x2048
      (truncf (F := Ideal) .bf16 (aWu m c) bitsLt_bf16_f32) shapeCasts_S8x64x2048_S512x2048 := by
    show StableHlo.after hostOps0 (fun b => m (c, b)) (Proc.devRef .tc main_v4) = _
    after_results
    rfl
  rw [h]
  pointwise []
  rfl

/-! ## The blocks -/

/-- The block indices: the tokens' and the result's block moves with the point, the weights' stay. -/
theorem index_eq : ∀ t : Fin cfg0.N, (∀ a, win0_0.index t a = ![t.val, 0] a) ∧ (∀ a, win0_4.index t a = ![t.val, 0] a)
    ∧ (∀ a, win0_1.index t a = 0) ∧ (∀ a, win0_2.index t a = 0) ∧ (∀ a, win0_3.index t a = 0) := by
  decide +kernel

/-- Token `r` of point `t`'s block. -/
def tokenOf (t : Fin cfg0.N) (r : Fin 1024) : Fin 8192 :=
  ⟨t.val * 1024 + r.val, by have h : t.val < 8 := lt_of_lt_of_eq t.isLt N_0; omega⟩

theorem iblk_x (c : Dev nD) (t : Fin cfg0.N) (r : Fin 1024) (k : Fin 2048) :
    (iblk m c 0 t : Vec Ideal S1024x2048 .f32) (ix2 r k) = aX m c (ix2 (tokenOf t r) k) := by
  have hi := (index_eq t).1
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val * 1024 + r.val; rw [hi 0]; simp
  | ⟨1, _⟩ => show win0_0.index t 1 * 2048 + 1 * k.val = k.val; rw [hi 1]; simp

theorem iblk_wr (c : Dev nD) (t : Fin cfg0.N) : (iblk m c 1 t : Vec Ideal S2048x8 .bf16) = aWr m c := by
  have hi := (index_eq t).2.2.1
  rw [← router_entry m c]
  funext j
  unfold iblk
  rw [View.read_apply]
  show V m c main_v5 _ = V m c main_v5 _
  congr 1
  funext a
  apply Fin.ext
  match a with
  | ⟨0, _⟩ => show win0_1.index t 0 * 2048 + 1 * (j 0).val = (j 0).val; rw [hi 0]; simp
  | ⟨1, _⟩ => show win0_1.index t 1 * 8 + 1 * (j 1).val = (j 1).val; rw [hi 1]; simp

theorem iblk_wd (c : Dev nD) (t : Fin cfg0.N) : (iblk m c 2 t : Vec Ideal S2048x512 .bf16) = V m c main_v2 := by
  have hi := (index_eq t).2.2.2.1
  funext j
  unfold iblk
  rw [View.read_apply]
  show V m c main_v2 _ = V m c main_v2 _
  congr 1
  funext a
  apply Fin.ext
  match a with
  | ⟨0, _⟩ => show win0_2.index t 0 * 2048 + 1 * (j 0).val = (j 0).val; rw [hi 0]; simp
  | ⟨1, _⟩ => show win0_2.index t 1 * 512 + 1 * (j 1).val = (j 1).val; rw [hi 1]; simp

theorem iblk_wu (c : Dev nD) (t : Fin cfg0.N) : (iblk m c 3 t : Vec Ideal S512x2048 .bf16) = V m c main_v4 := by
  have hi := (index_eq t).2.2.2.2
  funext j
  unfold iblk
  rw [View.read_apply]
  show V m c main_v4 _ = V m c main_v4 _
  congr 1
  funext a
  apply Fin.ext
  match a with
  | ⟨0, _⟩ => show win0_3.index t 0 * 512 + 1 * (j 0).val = (j 0).val; rw [hi 0]; simp
  | ⟨1, _⟩ => show win0_3.index t 1 * 2048 + 1 * (j 1).val = (j 1).val; rw [hi 1]; simp

/-! ## The result array -/

theorem hz : (![0, 0] : Fin 2 → Nat) = fun _ => 0 := funext fun a => by fin_cases a <;> rfl

/-- What the body leaves in the result's buffer is its one store's value. -/
theorem out_eq (x : Vec Ideal S1024x2048 .f32) (w : Vec Ideal S2048x8 .bf16) (wd : Vec Ideal S2048x512 .bf16)
    (wu : Vec Ideal S512x2048 .bf16) :
    out0_4 x w wd wu = k0_pay11 (k0_pay1 x) (k0_pay7 x w) (k0_pay9 x w) (Scalar.ofBits .f32 0x00000000#32) (k0_pay10 x w) wd wu := by
  unfold out0_4
  rw [View.canon_unit_zero hz]
  simp only [View.ld_unit_zero (S := S1024x2048) hz, View.ld_unit_zero (S := S2048x8) hz,
    View.ld_unit_zero (S := S2048x512) hz, View.ld_unit_zero (S := S512x2048) hz]

/-- The layer at every token and entry, as contents of the result array. -/
def result (c : Dev nD) : FVec Ideal S8192x2048 .f32 := fun i =>
  layer (fun k => aX m c (ix2 (i 0) k)) (fun k e => aWr m c (ix2 k e)) (fun e k h => aWd m c (ix3 e k h))
    (fun e h d => aWu m c (ix3 e h d)) (i 1)

/-- Every token's scores are real. -/
def RealScores (c : Dev nD) : Prop :=
  ∀ n : Fin 8192, ∃ r : Fin 8 → ℝ, ∀ e, score (fun k => aX m c (ix2 n k)) (fun k e => aWr m c (ix2 k e)) e = (r e : EReal)

/-- What point `t` leaves for its token `r`: the layer at that token. -/
theorem block_apply (c : Dev nD) (hs : RealScores m c) (t : Fin cfg0.N) (r : Fin 1024) (d : Fin 2048) :
    out0_4 (iblk m c 0 t) (iblk m c 1 t) (iblk m c 2 t) (iblk m c 3 t) (ix2 r d) = result m c (ix2 (tokenOf t r) d) := by
  rw [out_eq]
  exact body_layer _ _ _ _ r d _ _ _ _ (iblk_x m c t r) (fun k e => congrFun (iblk_wr m c t) (ix2 k e))
    (fun k u => (congrFun (iblk_wd m c t) (ix2 k u)).trans (down_entry m c k u))
    (fun u d => (congrFun (iblk_wu m c t) (ix2 u d)).trans (up_entry m c u d)) (hs (tokenOf t r))

/-- So each point writes back its rows of the layer. -/
theorem flushed_eq (c : Dev nD) (hs : RealScores m c) (t : Fin cfg0.N) (_ : (cfg0.win 4).flush t = true) :
    (dats m 0 c).flushed 4 t = ((cfg0.win 4).blk t).view.read (Elt Ideal) (result m c) := by
  have hi := (index_eq t).2.1
  rw [Cert.KernelIdeal.Value.flushed4]
  funext j
  rw [View.read_apply]
  show out0_4 (iblk m c 0 t) (iblk m c 1 t) (iblk m c 2 t) (iblk m c 3 t) (j : S1024x2048.Idx) = result m c _
  refine (congrArg (out0_4 (iblk m c 0 t) (iblk m c 1 t) (iblk m c 2 t) (iblk m c 3 t)) (eq_ix2 (j : S1024x2048.Idx))).trans
    ((block_apply m c hs t _ _).trans (congrArg (result m c) ?_))
  funext a
  apply Fin.ext
  match a with
  | ⟨0, _⟩ => show t.val * 1024 + (j 0).val = win0_4.index t 0 * 1024 + 1 * (j 0).val; rw [hi 0]; simp
  | ⟨1, _⟩ => show (j 1).val = win0_4.index t 1 * 2048 + 1 * (j 1).val; rw [hi 1]; simp

/-- And the eight points' rows are all of the array. -/
theorem final_eq (c : Dev nD) (hs : RealScores m c) : (dats m 0 c).arrAt 4 cfg0.N = result m c :=
  (dats m 0 c).arrAt_eq_of_cover 4 (result m c) (flushed_eq m c hs) fun i => by
    have h0 : (i 0 : Nat) < 8192 := (i 0).isLt
    have h1 : (i 1 : Nat) < 2048 := (i 1).isLt
    have ht : (i 0 : Nat) / 1024 < cfg0.N := by rw [show cfg0.N = 8 from N_0]; omega
    have hi := (index_eq ⟨(i 0 : Nat) / 1024, ht⟩).2.1
    refine ⟨⟨(i 0 : Nat) / 1024, ht⟩, flush0_4 _, ?_⟩
    show i ∈ ((View.whole main_v6).slice (win0_4.rect ⟨(i 0 : Nat) / 1024, ht⟩)).set
    rw [View.set_slice_whole, Rect.mem_set_unit]
    intro a
    match a with
    | ⟨0, _⟩ =>
      show win0_4.index ⟨(i 0 : Nat) / 1024, ht⟩ 0 * 1024 ≤ (i 0 : Nat) ∧ (i 0 : Nat) < win0_4.index ⟨(i 0 : Nat) / 1024, ht⟩ 0 * 1024 + 1024
      rw [hi 0]
      show (i 0 : Nat) / 1024 * 1024 ≤ (i 0 : Nat) ∧ (i 0 : Nat) < (i 0 : Nat) / 1024 * 1024 + 1024
      omega
    | ⟨1, _⟩ =>
      show win0_4.index ⟨(i 0 : Nat) / 1024, ht⟩ 1 * 2048 ≤ (i 1 : Nat) ∧ (i 1 : Nat) < win0_4.index ⟨(i 0 : Nat) / 1024, ht⟩ 1 * 2048 + 2048
      rw [hi 1]
      show 0 * 2048 ≤ (i 1 : Nat) ∧ (i 1 : Nat) < 0 * 2048 + 2048
      omega

end Cert.KernelIdeal.Layer

end
-- ==== Proof.ReferenceValue.lean ====
/- What the reference computes: its result at token `n` and entry `d` is the layer of Proof/Layer.lean, once the router's
   scores are real and the biases are zero. -/
module

public import proofs.«01_k».proof.Proof.Gen.ReferenceIdeal.Run
public import proofs.«01_k».proof.Proof.Layer
public import Idealize.ShloMosaic.Lib.Pointwise

@[expose] public section

noncomputable section

namespace Cert.ReferenceIdeal.Layer

open Cert.ReferenceIdeal Cert.ReferenceIdeal.Gen Cert.ReferenceIdeal.Value Cert.Moe
open Idealize.ShloMosaic Idealize.ShloMosaic.TcCoe Idealize.SL.Sem

/-! ## The arrays by their coordinates -/

/-- Token `n` of `x`. -/
abbrev tok (x : FVec Ideal S8192x2048 .f32) (n : Fin 8192) : Fin 2048 → EReal := fun k => x (ix2 n k)
abbrev mat2 (w : FVec Ideal S2048x8 .f32) : Fin 2048 → Fin 8 → EReal := fun k e => w (ix2 k e)
abbrev down3 (w : FVec Ideal S8x2048x64 .f32) : Fin 8 → Fin 2048 → Fin 64 → EReal := fun e k h => w (ix3 e k h)
abbrev up3 (w : FVec Ideal S8x64x2048 .f32) : Fin 8 → Fin 64 → Fin 2048 → EReal := fun e h d => w (ix3 e h d)

/-! ## The router -/

/-- The greatest of each token's eight values, as the program reduces them. -/
theorem rowMax_apply (v : FVec Ideal S8192x8 .f32) (n : Fin 8192) :
    Host.reduce FloatOps.maximumf v (constant S_ .f32 0xFF800000#32) reducesTo_S8192x8_S8192_d1 h_S_ (ix1 n)
      = Finset.univ.fold max (⊥ : EReal) fun e => v (ix2 n e) := by
  pointwise []
  rw [ofBits_negInf]

/-- Changing the second coordinate of a position. -/
theorem along_one (n : Fin 8192) (e k : Fin 8) :
    (ix2 n e : S8192x8.Idx).along 1 k = ix2 n k := by
  funext a
  fin_cases a <;> rfl

/-- The values the sort puts in front are the row's values at the sorted positions. -/
theorem topK_values (v : FVec Ideal S8192x8 .f32) (n : Fin 8192) (i : Fin 2) :
    (Host.topK S8192x2 1 (FloatOps.cmpfTotal .gt) v sliceFits_S8192x8_S8192x2).1 (ix2 n i)
      = v (ix2 n (sortedFrom (fun k k' => Ideal.cmp .ogt (v (ix2 n k)) (v (ix2 n k')) == 1#1) (i.castLE (by decide)))) := by
  simp only [Host.topK, Host.sort2]
  pointwise []
  simp only [along_one]
  rfl

/-- The indices that come with them are those positions. -/
theorem topK_indices (v : FVec Ideal S8192x8 .f32) (n : Fin 8192) (i : Fin 2) :
    (Host.topK S8192x2 1 (FloatOps.cmpfTotal .gt) v sliceFits_S8192x8_S8192x2).2 (ix2 n i)
      = BitVec.ofNat 32 (sortedFrom (fun k k' => Ideal.cmp .ogt (v (ix2 n k)) (v (ix2 n k')) == 1#1)
          (i.castLE (by decide)) : Fin 8).val := by
  simp only [Host.topK, Host.sort2]
  pointwise []
  simp only [along_one]
  rfl

/-- The program's arrays between the scores `l` and the weights of the two chosen experts: the exponentials, their
    quotients by the rows' sums, the two greatest of each row with their positions, and those two by their sum. -/
def exps (l : FVec Ideal S8192x8 .f32) : FVec Ideal S8192x8 .f32 :=
  Host.exp (subf l (broadcastInDim S8192x8 ![0, 1] bcast_S8192x1_S8192x8_0_1 (broadcastInDim S8192x1 ![0] bcast_S8192_S8192x1_0
    (maximumf (broadcastInDim S8192 ![] bcast_S_S8192 (constant S_ .f32 0xFF800000#32))
      (Host.reduce FloatOps.maximumf l (constant S_ .f32 0xFF800000#32) reducesTo_S8192x8_S8192_d1 h_S_)))))
def gates (l : FVec Ideal S8192x8 .f32) : FVec Ideal S8192x8 .f32 :=
  Host.divf (exps l) (broadcastInDim S8192x8 ![0, 1] bcast_S8192x1_S8192x8_0_1 (broadcastInDim S8192x1 ![0] bcast_S8192_S8192x1_0
    (Host.reduceAdd (exps l) (constant S_ .f32 0x00000000#32) reducesTo_S8192x8_S8192_d1 h_S_)))
def picked (l : FVec Ideal S8192x8 .f32) : FVec Ideal S8192x2 .f32 :=
  (Host.topK S8192x2 1 (FloatOps.cmpfTotal .gt) (gates l) sliceFits_S8192x8_S8192x2).1
def places (l : FVec Ideal S8192x8 .f32) : IVec S8192x2 32 :=
  (Host.topK S8192x2 1 (FloatOps.cmpfTotal .gt) (gates l) sliceFits_S8192x8_S8192x2).2
def shares (l : FVec Ideal S8192x8 .f32) : FVec Ideal S8192x2 .f32 :=
  Host.divf (picked l) (broadcastInDim S8192x2 ![0, 1] bcast_S8192x1_S8192x2_0_1 (broadcastInDim S8192x1 ![0] bcast_S8192_S8192x1_0
    (Host.reduceAdd (picked l) (constant S_ .f32 0x00000000#32) reducesTo_S8192x2_S8192_d1 h_S_)))

/-- The weight of expert `e` for every token, as the program sums it over the two picks and spreads it over the row. -/
def weights (l : FVec Ideal S8192x8 .f32) (e : BitVec 32) : FVec Ideal S8192x2048 .f32 :=
  broadcastInDim S8192x2048 ![0, 1] bcast_S8192x1_S8192x2048_0_1 (broadcastInDim S8192x1 ![0] bcast_S8192_S8192x1_0
    (Host.reduceAdd (mulf (shares l) (uitofp .f32 (cmpi .eq (places l) (broadcastInDim S8192x2 ![] bcast_S_S8192x2 (constantI S_ 32 e)))))
      (constant S_ .f32 0x00000000#32) reducesTo_S8192x2_S8192_d1 h_S_))

theorem gates_apply (l : FVec Ideal S8192x8 .f32) (n : Fin 8192) (e : Fin 8) :
    gates l (ix2 n e) = Ideal.div (Ideal.exp (l (ix2 n e) - l (ix2 n (first fun e => l (ix2 n e)))))
      (∑ j, Ideal.exp (l (ix2 n j) - l (ix2 n (first fun e => l (ix2 n e))))) := by
  have hexp : ∀ e, exps l (ix2 n e) = Ideal.exp (l (ix2 n e) - l (ix2 n (first fun e => l (ix2 n e)))) := fun e => by
    pointwise [exps]
    rw [ofBits_negInf, fold_max_eq (first_spec fun e => l (ix2 n e)), max_eq_right bot_le]
  pointwise [gates]
  simp only [hexp]

/-- The mark of a position at a word, as a number. -/
theorem mark (a e : Fin 8) :
    FloatOps.uitofp (F := Ideal) .f32 (IntOp.cmpi .eq (BitVec.ofNat 32 a.val) (BitVec.ofNat 32 e.val))
      = if a = e then (1 : EReal) else 0 := by
  have hw : ∀ a e : Fin 8, IntOp.cmpi .eq (BitVec.ofNat 32 a.val) (BitVec.ofNat 32 e.val) = if a = e then 1#1 else 0#1 := by
    decide +kernel
  rw [hw]
  split
  · show (((1#1).toNat : ℝ) : EReal) = 1
    norm_num
  · show (((0#1).toNat : ℝ) : EReal) = 0
    norm_num

section

variable (l : FVec Ideal S8192x8 .f32) (n : Fin 8192) (r : Fin 8 → ℝ) (hl : ∀ e, l (ix2 n e) = (r e : EReal))
include hl

/-- The two positions are those of the two greatest scores. -/
theorem places_apply (i : Fin 2) :
    places l (ix2 n i) = BitVec.ofNat 32 (![first fun e => l (ix2 n e), second fun e => l (ix2 n e)] i : Fin 8).val := by
  rw [places, topK_indices, sortedFrom_softmax _ r hl (fun e => gates l (ix2 n e)) (gates_apply l n)]

theorem picked_apply (i : Fin 2) :
    picked l (ix2 n i) = gates l (ix2 n (![first fun e => l (ix2 n e), second fun e => l (ix2 n e)] i)) := by
  rw [picked, topK_values, sortedFrom_softmax _ r hl (fun e => gates l (ix2 n e)) (gates_apply l n)]

/-- So the weight the program gives expert `e` is the weight of Proof/TopTwo.lean. -/
theorem weights_apply (e : Fin 8) (d : Fin 2048) :
    weights l (BitVec.ofNat 32 e.val) (ix2 n d) = weight (fun e => l (ix2 n e)) e := by
  rw [← weight_of_softmax _ r hl (fun e => gates l (ix2 n e)) (gates_apply l n) e]
  pointwise [weights, shares]
  rw [Fin.sum_univ_two, Fin.sum_univ_two, places_apply l n r hl, places_apply l n r hl, picked_apply l n r hl,
    picked_apply l n r hl]
  exact congrArg₂ (· + ·) (congrArg _ (mark _ e)) (congrArg _ (mark _ e))

end

/-! ## The experts -/

/-- An expert's output for every token: its slices of the weights, the projection, the cut at zero, the projection back. -/
def experts (x : FVec Ideal S8192x2048 .f32) (wd : FVec Ideal S8x2048x64 .f32) (bd : FVec Ideal S8x64 .f32)
    (wu : FVec Ideal S8x64x2048 .f32) (bu : FVec Ideal S8x2048 .f32) (e : Nat) (h3 : S8x2048x64.Slices ![e, 0, 0] S1x2048x64)
    (h4 : S8x64.Slices ![e, 0] S1x64) (h5 : S8x64x2048.Slices ![e, 0, 0] S1x64x2048) (h6 : S8x2048.Slices ![e, 0] S1x2048) :
    FVec Ideal S8192x2048 .f32 :=
  addf (Host.dotGeneral dot_S8192x64_S64x2048_S8192x2048_1_0_0_1_n_n none
      (maximumf (addf (Host.dotGeneral dot_S8192x2048_S2048x64_S8192x64_1_0_0_1_n_n none x
            (shapeCast _ (extractStridedSlice S1x2048x64 ![e, 0, 0] wd h3) shapeCasts_S1x2048x64_S2048x64))
          (broadcastInDim S8192x64 ![0, 1] bcast_S1x64_S8192x64_0_1 (broadcastInDim S1x64 ![1] bcast_S64_S1x64_1
            (shapeCast _ (extractStridedSlice S1x64 ![e, 0] bd h4) shapeCasts_S1x64_S64))))
        (broadcastInDim S8192x64 ![] bcast_S_S8192x64 (constant S_ .f32 0x00000000#32)))
      (shapeCast _ (extractStridedSlice S1x64x2048 ![e, 0, 0] wu h5) shapeCasts_S1x64x2048_S64x2048))
    (broadcastInDim S8192x2048 ![0, 1] bcast_S1x2048_S8192x2048_0_1 (broadcastInDim S1x2048 ![1] bcast_S2048_S1x2048_1
      (shapeCast _ (extractStridedSlice S1x2048 ![e, 0] bu h6) shapeCasts_S1x2048_S2048)))

theorem experts_apply (x : FVec Ideal S8192x2048 .f32) (wd : FVec Ideal S8x2048x64 .f32) (bd : FVec Ideal S8x64 .f32)
    (wu : FVec Ideal S8x64x2048 .f32) (bu : FVec Ideal S8x2048 .f32) (e : Fin 8) (h3 h4 h5 h6)
    (hbd : ∀ e h, bd (ix2 e h) = 0) (hbu : ∀ e d, bu (ix2 e d) = 0) (n : Fin 8192) (d : Fin 2048) :
    experts x wd bd wu bu e.val h3 h4 h5 h6 (ix2 n d) = expert (tok x n) (down3 wd) (up3 wu) e d := by
  pointwise [experts]
  simp only [hbd, hbu, add_zero]
  rfl

/-! ## The result -/

/-- One expert's share of the result. -/
def part (l : FVec Ideal S8192x8 .f32) (x : FVec Ideal S8192x2048 .f32) (wd : FVec Ideal S8x2048x64 .f32)
    (bd : FVec Ideal S8x64 .f32) (wu : FVec Ideal S8x64x2048 .f32) (bu : FVec Ideal S8x2048 .f32) (e : Fin 8)
    (h3 : S8x2048x64.Slices ![e.val, 0, 0] S1x2048x64) (h4 : S8x64.Slices ![e.val, 0] S1x64)
    (h5 : S8x64x2048.Slices ![e.val, 0, 0] S1x64x2048) (h6 : S8x2048.Slices ![e.val, 0] S1x2048) :
    FVec Ideal S8192x2048 .f32 :=
  mulf (weights l (BitVec.ofNat 32 e.val)) (experts x wd bd wu bu e.val h3 h4 h5 h6)

/-- The eight shares, added to zero one after the other. -/
def total (l : FVec Ideal S8192x8 .f32) (x : FVec Ideal S8192x2048 .f32) (wd : FVec Ideal S8x2048x64 .f32)
    (bd : FVec Ideal S8x64 .f32) (wu : FVec Ideal S8x64x2048 .f32) (bu : FVec Ideal S8x2048 .f32) :
    FVec Ideal S8192x2048 .f32 :=
  addf (addf (addf (addf (addf (addf (addf (addf (broadcastInDim S8192x2048 ![] bcast_S_S8192x2048 (constant S_ .f32 0x00000000#32))
    (part l x wd bd wu bu 0 slices_S8x2048x64_S1x2048x64_0_0_0 slices_S8x64_S1x64_0_0 slices_S8x64x2048_S1x64x2048_0_0_0 slices_S8x2048_S1x2048_0_0))
    (part l x wd bd wu bu 1 slices_S8x2048x64_S1x2048x64_1_0_0 slices_S8x64_S1x64_1_0 slices_S8x64x2048_S1x64x2048_1_0_0 slices_S8x2048_S1x2048_1_0))
    (part l x wd bd wu bu 2 slices_S8x2048x64_S1x2048x64_2_0_0 slices_S8x64_S1x64_2_0 slices_S8x64x2048_S1x64x2048_2_0_0 slices_S8x2048_S1x2048_2_0))
    (part l x wd bd wu bu 3 slices_S8x2048x64_S1x2048x64_3_0_0 slices_S8x64_S1x64_3_0 slices_S8x64x2048_S1x64x2048_3_0_0 slices_S8x2048_S1x2048_3_0))
    (part l x wd bd wu bu 4 slices_S8x2048x64_S1x2048x64_4_0_0 slices_S8x64_S1x64_4_0 slices_S8x64x2048_S1x64x2048_4_0_0 slices_S8x2048_S1x2048_4_0))
    (part l x wd bd wu bu 5 slices_S8x2048x64_S1x2048x64_5_0_0 slices_S8x64_S1x64_5_0 slices_S8x64x2048_S1x64x2048_5_0_0 slices_S8x2048_S1x2048_5_0))
    (part l x wd bd wu bu 6 slices_S8x2048x64_S1x2048x64_6_0_0 slices_S8x64_S1x64_6_0 slices_S8x64x2048_S1x64x2048_6_0_0 slices_S8x2048_S1x2048_6_0))
    (part l x wd bd wu bu 7 slices_S8x2048x64_S1x2048x64_7_0_0 slices_S8x64_S1x64_7_0 slices_S8x64x2048_S1x64x2048_7_0_0 slices_S8x2048_S1x2048_7_0)

/-- The router's scores as the program computes them, with the bias. -/
def scores (x : FVec Ideal S8192x2048 .f32) (wr : FVec Ideal S2048x8 .f32) (br : FVec Ideal S8 .f32) : FVec Ideal S8192x8 .f32 :=
  addf (Host.dotGeneral dot_S8192x2048_S2048x8_S8192x8_1_0_0_1_n_n none x wr)
    (broadcastInDim S8192x8 ![0, 1] bcast_S1x8_S8192x8_0_1 (broadcastInDim S1x8 ![1] bcast_S8_S1x8_1 br))

/-- When the bias is zero they are the scores of Proof/Layer.lean. -/
theorem scores_apply (x : FVec Ideal S8192x2048 .f32) (wr : FVec Ideal S2048x8 .f32) (br : FVec Ideal S8 .f32)
    (hbr : ∀ e, br (ix1 e) = 0) (n : Fin 8192) (e : Fin 8) :
    scores x wr br (ix2 n e) = score (tok x n) (mat2 wr) e := by
  pointwise [scores]
  rw [hbr, add_zero]
  rfl

/-- The reference's result at token `n` and entry `d` is the layer. -/
theorem total_apply (x : FVec Ideal S8192x2048 .f32) (wr : FVec Ideal S2048x8 .f32) (br : FVec Ideal S8 .f32)
    (wd : FVec Ideal S8x2048x64 .f32) (bd : FVec Ideal S8x64 .f32) (wu : FVec Ideal S8x64x2048 .f32) (bu : FVec Ideal S8x2048 .f32)
    (hbr : ∀ e, br (ix1 e) = 0) (hbd : ∀ e h, bd (ix2 e h) = 0) (hbu : ∀ e d, bu (ix2 e d) = 0) (n : Fin 8192) (d : Fin 2048)
    (hs : ∃ r : Fin 8 → ℝ, ∀ e, score (tok x n) (mat2 wr) e = (r e : EReal)) :
    total (scores x wr br) x wd bd wu bu (ix2 n d) = layer (tok x n) (mat2 wr) (down3 wd) (up3 wu) d := by
  obtain ⟨r, hr⟩ := hs
  have hl : ∀ e, scores x wr br (ix2 n e) = (r e : EReal) := fun e => (scores_apply x wr br hbr n e).trans (hr e)
  have hrow : (fun e => scores x wr br (ix2 n e)) = score (tok x n) (mat2 wr) := funext (scores_apply x wr br hbr n)
  have hpart : ∀ (e : Fin 8) h3 h4 h5 h6, part (scores x wr br) x wd bd wu bu e h3 h4 h5 h6 (ix2 n d)
      = weight (score (tok x n) (mat2 wr)) e * expert (tok x n) (down3 wd) (up3 wu) e d := fun e h3 h4 h5 h6 => by
    pointwise [part]
    rw [weights_apply _ n r hl, experts_apply x wd bd wu bu e h3 h4 h5 h6 hbd hbu, hrow]
  pointwise [total]
  simp only [hpart]
  rw [layer, Fin.sum_univ_eight]

variable (m : (ℓ : Loc nD τ sig) → Buf (Elt Ideal) ℓ) (ρ : Dev nD → PrngReg)

/-- The arguments on device `c`. -/
abbrev aX (c : Dev nD) : FVec Ideal S8192x2048 .f32 := m ((c.tc : Thread nD τ).loc main_arg0)
abbrev aWr (c : Dev nD) : FVec Ideal S2048x8 .f32 := m ((c.tc : Thread nD τ).loc main_arg1)
abbrev aBr (c : Dev nD) : FVec Ideal S8 .f32 := m ((c.tc : Thread nD τ).loc main_arg2)
abbrev aWd (c : Dev nD) : FVec Ideal S8x2048x64 .f32 := m ((c.tc : Thread nD τ).loc main_arg3)
abbrev aBd (c : Dev nD) : FVec Ideal S8x64 .f32 := m ((c.tc : Thread nD τ).loc main_arg4)
abbrev aWu (c : Dev nD) : FVec Ideal S8x64x2048 .f32 := m ((c.tc : Thread nD τ).loc main_arg5)
abbrev aBu (c : Dev nD) : FVec Ideal S8x2048 .f32 := m ((c.tc : Thread nD τ).loc main_arg6)

/-- The reference's run leaves `total` of the arguments and keeps them. -/
theorem run_total : θ_run defs (onTc (τ := τ) (main (F := Ideal))) ⟨m, fun _ => 0, ρ⟩ fun r => ∀ c : Dev nD,
    r.2.mem ((c.tc : Thread nD τ).loc main_v227)
        = total (scores (aX m c) (aWr m c) (aBr m c)) (aX m c) (aWd m c) (aBd m c) (aWu m c) (aBu m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans rfl, (h c).2⟩) (Cert.ReferenceIdeal.Value.run m ρ)

end Cert.ReferenceIdeal.Layer

end
-- ==== Proof.Precondition.lean ====
/- What the precondition says of the arguments: the tokens' and the router's entries are real numbers and the three
   biases are zero. -/
module

public import proofs.«01_k».proof.Proof.Gen.Pre_finite_router_no_bias
public import proofs.«01_k».proof.Proof.TopTwo
public import Idealize.ShloMosaic.Lib.Pointwise

@[expose] public section

noncomputable section

namespace Cert.Pre_finite_router_no_bias.Read

open Cert.Pre_finite_router_no_bias Cert.Pre_finite_router_no_bias.Gen Cert.Moe
open Idealize.ShloMosaic

/-- An extended real of absolute value below the greatest is a real. -/
theorem real_of_abs_lt_top (a : EReal) (h : max a (-a) < ⊤) : ∃ r : ℝ, a = (r : EReal) := by
  induction a with
  | bot => simp at h
  | coe r => exact ⟨r, rfl⟩
  | top => simp at h

/-- A comparison's word is one just when the comparison holds. -/
theorem of_cmp_one (p : Bool) (h : BitVec.ofBool p = 1#1) : p = true := by
  revert h
  cases p <;> decide

variable (x : FVec Ideal S8192x2048 .f32) (wr : FVec Ideal S2048x8 .f32) (br : FVec Ideal S8 .f32)
  (wd : FVec Ideal S8x2048x64 .f32) (bd : FVec Ideal S8x64 .f32) (wu : FVec Ideal S8x64x2048 .f32) (bu : FVec Ideal S8x2048 .f32)

/-- The tokens' entries are real. -/
theorem real_x (h : (fn x wr br wd bd wu bu).1 = fun _ => 1#1) (n : Fin 8192) (k : Fin 2048) :
    ∃ r : ℝ, x (ix2 n k) = (r : EReal) := by
  have h' := congrFun h (ix2 n k)
  simp only [fn] at h'
  pointwise at h'
  rw [ofBits_posInf, Ideal.absf_def] at h'
  exact real_of_abs_lt_top _ (of_decide_eq_true (of_cmp_one _ h'))

/-- The router's entries are real. -/
theorem real_wr (h : (fn x wr br wd bd wu bu).2.1 = fun _ => 1#1) (k : Fin 2048) (e : Fin 8) :
    ∃ r : ℝ, wr (ix2 k e) = (r : EReal) := by
  have h' := congrFun h (ix2 k e)
  simp only [fn] at h'
  pointwise at h'
  rw [ofBits_posInf, Ideal.absf_def] at h'
  exact real_of_abs_lt_top _ (of_decide_eq_true (of_cmp_one _ h'))

/-- The router's bias is zero. -/
theorem br_zero (h : (fn x wr br wd bd wu bu).2.2.1 = fun _ => 1#1) (e : Fin 8) : br (ix1 e) = 0 := by
  have h' := congrFun h (ix1 e)
  simp only [fn] at h'
  pointwise at h'
  exact of_decide_eq_true (of_cmp_one _ h')

/-- The first bias of the experts is zero. -/
theorem bd_zero (h : (fn x wr br wd bd wu bu).2.2.2.1 = fun _ => 1#1) (e : Fin 8) (u : Fin 64) : bd (ix2 e u) = 0 := by
  have h' := congrFun h (ix2 e u)
  simp only [fn] at h'
  pointwise at h'
  exact of_decide_eq_true (of_cmp_one _ h')

/-- The second bias of the experts is zero. -/
theorem bu_zero (h : (fn x wr br wd bd wu bu).2.2.2.2 = fun _ => 1#1) (e : Fin 8) (d : Fin 2048) : bu (ix2 e d) = 0 := by
  have h' := congrFun h (ix2 e d)
  simp only [fn] at h'
  pointwise at h'
  exact of_decide_eq_true (of_cmp_one _ h')

end Cert.Pre_finite_router_no_bias.Read

end
-- ==== Proof.Equation.lean ====
/- The equation between the kernel and the reference: on equal arguments that satisfy the precondition both results are the
   layer of Proof/Layer.lean, at every token and entry. -/
module

public import proofs.«01_k».proof.Proof.KernelArray
public import proofs.«01_k».proof.Proof.ReferenceValue
public import proofs.«01_k».proof.Proof.Precondition

@[expose] public section

noncomputable section

namespace Cert.Equation

open Cert.Moe Cert.Pre_finite_router_no_bias.Gen
open Idealize.ShloMosaic Idealize.ShloMosaic.TcCoe Idealize.SL.Sem

/-- The precondition on the kernel's arguments of device `c`. -/
def Holds (m : (ℓ : Loc KernelIdeal.nD KernelIdeal.τ KernelIdeal.sig) → Buf (Elt Ideal) ℓ) (c : Dev KernelIdeal.nD) : Prop :=
  let p := Pre_finite_router_no_bias.fn (F := Ideal)
    (m ((c.tc : Thread KernelIdeal.nD KernelIdeal.τ).loc KernelIdeal.main_arg0))
    (m ((c.tc : Thread KernelIdeal.nD KernelIdeal.τ).loc KernelIdeal.main_arg1))
    (m ((c.tc : Thread KernelIdeal.nD KernelIdeal.τ).loc KernelIdeal.main_arg2))
    (m ((c.tc : Thread KernelIdeal.nD KernelIdeal.τ).loc KernelIdeal.main_arg3))
    (m ((c.tc : Thread KernelIdeal.nD KernelIdeal.τ).loc KernelIdeal.main_arg4))
    (m ((c.tc : Thread KernelIdeal.nD KernelIdeal.τ).loc KernelIdeal.main_arg5))
    (m ((c.tc : Thread KernelIdeal.nD KernelIdeal.τ).loc KernelIdeal.main_arg6))
  p.1 = (fun _ => 1#1) ∧ p.2.1 = (fun _ => 1#1) ∧ p.2.2.1 = (fun _ => 1#1) ∧ p.2.2.2.1 = (fun _ => 1#1)
    ∧ p.2.2.2.2 = (fun _ => 1#1)

/-- Then every token's scores are real. -/
theorem realScores (m : (ℓ : Loc KernelIdeal.nD KernelIdeal.τ KernelIdeal.sig) → Buf (Elt Ideal) ℓ) (c : Dev KernelIdeal.nD)
    (h : Holds m c) : KernelIdeal.Layer.RealScores m c := fun n =>
  exists_real_score _ _ (Pre_finite_router_no_bias.Read.real_x _ _ _ _ _ _ _ h.1 n)
    (Pre_finite_router_no_bias.Read.real_wr _ _ _ _ _ _ _ h.2.1)

/-- The reference's value of the kernel's arguments is the kernel's result. -/
theorem total_eq_result (m : (ℓ : Loc KernelIdeal.nD KernelIdeal.τ KernelIdeal.sig) → Buf (Elt Ideal) ℓ)
    (c : Dev KernelIdeal.nD) (h : Holds m c) :
    ReferenceIdeal.Layer.total (ReferenceIdeal.Layer.scores
        (m ((c.tc : Thread KernelIdeal.nD KernelIdeal.τ).loc KernelIdeal.main_arg0))
        (m ((c.tc : Thread KernelIdeal.nD KernelIdeal.τ).loc KernelIdeal.main_arg1))
        (m ((c.tc : Thread KernelIdeal.nD KernelIdeal.τ).loc KernelIdeal.main_arg2)))
      (m ((c.tc : Thread KernelIdeal.nD KernelIdeal.τ).loc KernelIdeal.main_arg0))
      (m ((c.tc : Thread KernelIdeal.nD KernelIdeal.τ).loc KernelIdeal.main_arg3))
      (m ((c.tc : Thread KernelIdeal.nD KernelIdeal.τ).loc KernelIdeal.main_arg4))
      (m ((c.tc : Thread KernelIdeal.nD KernelIdeal.τ).loc KernelIdeal.main_arg5))
      (m ((c.tc : Thread KernelIdeal.nD KernelIdeal.τ).loc KernelIdeal.main_arg6))
    = KernelIdeal.Layer.result m c := by
  funext i
  rw [eq_ix2 i, ReferenceIdeal.Layer.total_apply _ _ _ _ _ _ _
    (Pre_finite_router_no_bias.Read.br_zero _ _ _ _ _ _ _ h.2.2.1)
    (Pre_finite_router_no_bias.Read.bd_zero _ _ _ _ _ _ _ h.2.2.2.1)
    (Pre_finite_router_no_bias.Read.bu_zero _ _ _ _ _ _ _ h.2.2.2.2) (i 0) (i 1) (realScores m c h (i 0))]
  rfl

/-- The kernel's run leaves the layer in its result array and keeps the arguments. -/
theorem kernel_run (m : (ℓ : Loc KernelIdeal.nD KernelIdeal.τ KernelIdeal.sig) → Buf (Elt Ideal) ℓ)
    (ρ : Dev KernelIdeal.nD → PrngReg) (h : ∀ c, Holds m c) :
    θ_run (KernelIdeal.defs (F := Ideal)) (onTc (τ := KernelIdeal.τ) (KernelIdeal.main (F := Ideal))) ⟨m, fun _ => 0, ρ⟩
      fun r => ∀ c : Dev KernelIdeal.nD,
        r.2.mem ((c.tc : Thread KernelIdeal.nD KernelIdeal.τ).loc KernelIdeal.main_v6) = KernelIdeal.Layer.result m c
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3)
        ∧ r.2.mem ((c.tc : Thread KernelIdeal.nD KernelIdeal.τ).loc KernelIdeal.main_arg4) = m ((c.tc : Thread KernelIdeal.nD KernelIdeal.τ).loc KernelIdeal.main_arg4)
        ∧ r.2.mem ((c.tc : Thread KernelIdeal.nD KernelIdeal.τ).loc KernelIdeal.main_arg5) = m ((c.tc : Thread KernelIdeal.nD KernelIdeal.τ).loc KernelIdeal.main_arg5)
        ∧ r.2.mem ((c.tc : Thread KernelIdeal.nD KernelIdeal.τ).loc KernelIdeal.main_arg6) = m ((c.tc : Thread KernelIdeal.nD KernelIdeal.τ).loc KernelIdeal.main_arg6) :=
  (θ_run _ _ _).mono (fun _ hr c => ⟨(hr c).1.trans (KernelIdeal.Layer.final_eq m c (realScores m c (h c))), (hr c).2⟩)
    (KernelIdeal.Value.run_blocks m ρ)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite_router_no_bias
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, keeps its arguments and ends quiescent. -/
theorem reference_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run m ρ)

/-- On equal arguments that satisfy the precondition the kernel's result is the reference's. -/
theorem algebraic : Cert.algebraic_KernelIdeal_ReferenceIdeal_pre_finite_router_no_bias
    (hKernelIdeal := Cert.KernelIdeal.Gen.facts) (hReferenceIdeal := Cert.ReferenceIdeal.Gen.facts)
    (hPre_finite_router_no_bias := Cert.Pre_finite_router_no_bias.Gen.facts) := fun m ρ m' ρ' hpre heq =>
  ⟨fun c => Cert.KernelIdeal.Layer.result m c, Cert.Equation.kernel_run m ρ hpre,
    (θ_run _ _ _).mono (fun r h c => ⟨(h c).1.trans (by
        obtain ⟨h0, h1, h2, h3, h4, h5, h6⟩ := heq c
        refine Eq.trans ?_ (Cert.Equation.total_eq_result m c (hpre c))
        rw [← h0, ← h1, ← h2, ← h3, ← h4, ← h5, ← h6]), (h c).2⟩)
      (Cert.ReferenceIdeal.Layer.run_total m' ρ')⟩

/-- All the claims together. -/
theorem claim : Cert.Claim := ⟨Cert.Kernel.Gen.facts, Cert.KernelIdeal.Gen.facts, Cert.ReferenceIdeal.Gen.facts, Cert.Pre_finite_router_no_bias.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  trivial,
  algebraic⟩

end Cert.Proof

end
